-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x2048x4096 : Shape := ⟨3, ![4, 2048, 4096]⟩
abbrev S1x256x4096 : Shape := ⟨3, ![1, 256, 4096]⟩
abbrev S256x4096 : Shape := ⟨2, ![256, 4096]⟩
abbrev S4096x256 : Shape := ⟨2, ![4096, 256]⟩
abbrev S4096x1 : Shape := ⟨2, ![4096, 1]⟩
abbrev S1x256 : Shape := ⟨2, ![1, 256]⟩
abbrev S4095x256 : Shape := ⟨2, ![4095, 256]⟩
abbrev S2x256 : Shape := ⟨2, ![2, 256]⟩
abbrev S4094x256 : Shape := ⟨2, ![4094, 256]⟩
abbrev S512x8x256 : Shape := ⟨3, ![512, 8, 256]⟩
abbrev S512x4x256 : Shape := ⟨3, ![512, 4, 256]⟩
abbrev S256x16x256 : Shape := ⟨3, ![256, 16, 256]⟩
abbrev S256x8x256 : Shape := ⟨3, ![256, 8, 256]⟩
abbrev S128x32x256 : Shape := ⟨3, ![128, 32, 256]⟩
abbrev S128x16x256 : Shape := ⟨3, ![128, 16, 256]⟩
abbrev S64x64x256 : Shape := ⟨3, ![64, 64, 256]⟩
abbrev S64x32x256 : Shape := ⟨3, ![64, 32, 256]⟩
abbrev S32x128x256 : Shape := ⟨3, ![32, 128, 256]⟩
abbrev S32x64x256 : Shape := ⟨3, ![32, 64, 256]⟩
abbrev S16x256x256 : Shape := ⟨3, ![16, 256, 256]⟩
abbrev S16x128x256 : Shape := ⟨3, ![16, 128, 256]⟩
abbrev S8x512x256 : Shape := ⟨3, ![8, 512, 256]⟩
abbrev S8x256x256 : Shape := ⟨3, ![8, 256, 256]⟩
abbrev S4x1024x256 : Shape := ⟨3, ![4, 1024, 256]⟩
abbrev S4x512x256 : Shape := ⟨3, ![4, 512, 256]⟩
abbrev S2x2048x256 : Shape := ⟨3, ![2, 2048, 256]⟩
abbrev S2x1024x256 : Shape := ⟨3, ![2, 1024, 256]⟩
abbrev S1x4096x256 : Shape := ⟨3, ![1, 4096, 256]⟩
abbrev S1x2048x256 : Shape := ⟨3, ![1, 2048, 256]⟩
abbrev S1x2048x512 : Shape := ⟨3, ![1, 2048, 512]⟩
abbrev S2048x512 : Shape := ⟨2, ![2048, 512]⟩
abbrev S2048x1 : Shape := ⟨2, ![2048, 1]⟩
abbrev S1x512 : Shape := ⟨2, ![1, 512]⟩
abbrev S2047x512 : Shape := ⟨2, ![2047, 512]⟩
abbrev S2x512 : Shape := ⟨2, ![2, 512]⟩
abbrev S2046x512 : Shape := ⟨2, ![2046, 512]⟩
abbrev S256x8x512 : Shape := ⟨3, ![256, 8, 512]⟩
abbrev S256x4x512 : Shape := ⟨3, ![256, 4, 512]⟩
abbrev S128x16x512 : Shape := ⟨3, ![128, 16, 512]⟩
abbrev S128x8x512 : Shape := ⟨3, ![128, 8, 512]⟩
abbrev S64x32x512 : Shape := ⟨3, ![64, 32, 512]⟩
abbrev S64x16x512 : Shape := ⟨3, ![64, 16, 512]⟩
abbrev S32x64x512 : Shape := ⟨3, ![32, 64, 512]⟩
abbrev S32x32x512 : Shape := ⟨3, ![32, 32, 512]⟩
abbrev S16x128x512 : Shape := ⟨3, ![16, 128, 512]⟩
abbrev S16x64x512 : Shape := ⟨3, ![16, 64, 512]⟩
abbrev S8x256x512 : Shape := ⟨3, ![8, 256, 512]⟩
abbrev S8x128x512 : Shape := ⟨3, ![8, 128, 512]⟩
abbrev S4x512x512 : Shape := ⟨3, ![4, 512, 512]⟩
abbrev S4x256x512 : Shape := ⟨3, ![4, 256, 512]⟩
abbrev S2x1024x512 : Shape := ⟨3, ![2, 1024, 512]⟩
abbrev S2x512x512 : Shape := ⟨3, ![2, 512, 512]⟩
abbrev S1x1024x512 : Shape := ⟨3, ![1, 1024, 512]⟩

abbrev nBuf : Space → Nat
  | .hbm => 3
  | .vmem => 8
  | .smem => 0
  | _ => 0

abbrev bufTy : (tb : Table) → Fin (tcTables nBuf tb) → BufTy
  | .hbm, ⟨0, _⟩ => ⟨S4x2048x4096, .f32⟩
  | .hbm, ⟨1, _⟩ => ⟨S4x2048x4096, .f32⟩
  | .hbm, ⟨2, _⟩ => ⟨S4x2048x4096, .f32⟩
  | .local _ .vmem, ⟨0, _⟩ => ⟨S1x256x4096, .f32⟩
  | .local _ .vmem, ⟨1, _⟩ => ⟨S1x256x4096, .f32⟩
  | .local _ .vmem, ⟨2, _⟩ => ⟨S1x256x4096, .f32⟩
  | .local _ .vmem, ⟨3, _⟩ => ⟨S1x256x4096, .f32⟩
  | .local _ .vmem, ⟨4, _⟩ => ⟨S1x2048x512, .f32⟩
  | .local _ .vmem, ⟨5, _⟩ => ⟨S1x2048x512, .f32⟩
  | .local _ .vmem, ⟨6, _⟩ => ⟨S1x2048x512, .f32⟩
  | .local _ .vmem, ⟨7, _⟩ => ⟨S1x2048x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x2048x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]
-- ==== ReferenceIdeal.lean ====
abbrev S4x2048x4096 : Shape := ⟨3, ![4, 2048, 4096]⟩
abbrev S4x4096x2048 : Shape := ⟨3, ![4, 4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4x2048x4096, .f32⟩
  | .hbm, ⟨2, _⟩ => ⟨S4x2048x4096, .i32⟩
  | .hbm, ⟨3, _⟩ => ⟨S4x4096x2048, .f32⟩
  | .hbm, ⟨4, _⟩ => ⟨S4x4096x2048, .f32⟩
  | .hbm, ⟨5, _⟩ => ⟨S4x4096x2048, .i32⟩
  | .hbm, ⟨6, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_values : Ref sig .tc := ⟨.hbm, 1, rfl⟩
abbrev main_indices : Ref sig .tc := ⟨.hbm, 2, rfl⟩
abbrev main_v0 : Ref sig .tc := ⟨.hbm, 3, rfl⟩
abbrev main_values_0 : Ref sig .tc := ⟨.hbm, 4, rfl⟩
abbrev main_indices_1 : Ref sig .tc := ⟨.hbm, 5, rfl⟩
abbrev main_v1 : Ref sig .tc := ⟨.hbm, 6, rfl⟩

abbrev nD : Nat := 1
abbrev τ : Topo := Topo.v7x

variable {F : FTy → Type} [FloatOps F]
-- ==== Proof.Stages.lean ====
/-
  One step of the bitonic sort as the kernel writes it on a whole `[n, c]` vector, each of whose `c` columns is one
  sequence of `n` entries: the multiplication by the signs of a level (`signFirst`, `signNext`), the compare-exchange at a
  distance below one register's eight rows, by two rotations and selects (`rollStep`), and the compare-exchange at a
  distance of whole registers, by cutting the rows into pairs of slabs (`slabStep`); and each of them read at one entry.
-/
module

public import Idealize.ShloMosaic.Adequacy
public import Idealize.ShloMosaic.Lib.ValueIdx
public import Idealize.ShloMosaic.Lib.Pointwise
public import Idealize.ShloMosaic.Lib.Pointwise.IndexVar

@[expose] public section

noncomputable section

namespace Cert.Sort

open Idealize.ShloMosaic

/-! ## The side conditions of the operations, at any extents -/

/-- One column of words spreads over `c` columns. -/
theorem spread (n c : ℕ) : (⟨2, ![n, 1]⟩ : Shape).Broadcasts ⟨2, ![n, c]⟩ := by
  refine ⟨le_refl _, fun a => ?_⟩
  match a with
  | ⟨0, _⟩ => exact Or.inr fun _ => rfl
  | ⟨1, _⟩ => exact Or.inl rfl

/-- `m` rows from row `o` on lie inside `n` rows. -/
theorem rowsFit {n m o : ℕ} (c : ℕ) (h : o + m ≤ n) : (⟨2, ![n, c]⟩ : Shape).Slices ![o, 0] ⟨2, ![m, c]⟩ := by
  refine ⟨rfl, fun a => ?_⟩
  match a with
  | ⟨0, _⟩ => exact h
  | ⟨1, _⟩ => exact (Nat.zero_add c).le

/-- `a` rows and then `b` rows make `n` rows. -/
theorem rowsJoin {n a b : ℕ} (c : ℕ) (h : a + b = n) :
    Shape.Concatenates [⟨2, ![a, c]⟩, ⟨2, ![b, c]⟩] ⟨2, ![n, c]⟩ 0 := by
  refine ⟨le_refl _, fun s hs => ?_, ?_⟩
  · simp only [List.mem_cons, List.not_mem_nil, or_false] at hs
    rcases hs with rfl | rfl
    all_goals
      refine ⟨rfl, fun b hb => ?_⟩
      match b with
      | ⟨0, _⟩ => exact absurd rfl hb
      | ⟨1, _⟩ => rfl
  · show a + (b + 0) = n
    exact h

/-- `g` slabs of `m` rows are `n = g * m` rows. -/
theorem slabCasts {n g m : ℕ} (c : ℕ) (h : n = g * m) : (⟨2, ![n, c]⟩ : Shape).ShapeCasts ⟨3, ![g, m, c]⟩ := by
  show (∏ a, _) = ∏ a, _
  rw [Fin.prod_univ_three, Fin.prod_univ_two]
  show g * m * c = n * c
  rw [h]

/-- `m` rows from row `o` of each slab lie inside its `w` rows. -/
theorem slabFit {w m o : ℕ} (g c : ℕ) (h : o + m ≤ w) :
    (⟨3, ![g, w, c]⟩ : Shape).Slices ![0, o, 0] ⟨3, ![g, m, c]⟩ := by
  refine ⟨rfl, fun a => ?_⟩
  match a with
  | ⟨0, _⟩ => exact (Nat.zero_add g).le
  | ⟨1, _⟩ => exact h
  | ⟨2, _⟩ => exact (Nat.zero_add c).le

/-- Two halves of `j` rows make slabs of `2 * j` rows. -/
theorem slabJoin (g j c : ℕ) :
    Shape.Concatenates [⟨3, ![g, j, c]⟩, ⟨3, ![g, j, c]⟩] ⟨3, ![g, 2 * j, c]⟩ 1 := by
  refine ⟨le_refl _, fun s hs => ?_, ?_⟩
  · simp only [List.mem_cons, List.not_mem_nil, or_false] at hs
    rcases hs with rfl | rfl
    all_goals
      refine ⟨rfl, fun b hb => ?_⟩
      match b with
      | ⟨0, _⟩ => rfl
      | ⟨1, _⟩ => exact absurd rfl hb
      | ⟨2, _⟩ => rfl
  · show j + (j + 0) = 2 * j
    omega

/-! ## The steps, as written -/

section Steps
variable {F : FTy → Type} [FloatOps F]

/-- `v` times `1 − 2 * bits`, the sign words `bits` (0 or 1) being one per row. -/
def flip (n c : ℕ) (bits : IVec ⟨2, ![n, 1]⟩ 32) (v : FVec F ⟨2, ![n, c]⟩ .f32) : FVec F ⟨2, ![n, c]⟩ .f32 :=
  mulf v (broadcastTo ⟨2, ![n, c]⟩
    (sitofp .f32 (subi (broadcast ⟨2, ![n, 1]⟩ 1#32) (muli (broadcast ⟨2, ![n, 1]⟩ 2#32) bits))) (spread n c))

/-- Bit `k` of the row number. -/
def rowBit (n k : ℕ) (r : IVec ⟨2, ![n, 1]⟩ 32) : IVec ⟨2, ![n, 1]⟩ 32 :=
  andi (shrsi r (broadcast ⟨2, ![n, 1]⟩ (BitVec.ofNat 32 k))) (broadcast ⟨2, ![n, 1]⟩ 1#32)

/-- The first level's signs put on: by bit 1 of the row number. -/
def signFirst (n c : ℕ) (r : IVec ⟨2, ![n, 1]⟩ 32) (v : FVec F ⟨2, ![n, c]⟩ .f32) : FVec F ⟨2, ![n, c]⟩ .f32 :=
  flip n c (xori (broadcast ⟨2, ![n, 1]⟩ 0#32) (rowBit n 1 r)) v

/-- A level's signs, by bit `k` of the row number, taken off and the next one's, by bit `k + 1`, put on. -/
def signNext (n c k : ℕ) (r : IVec ⟨2, ![n, 1]⟩ 32) (v : FVec F ⟨2, ![n, c]⟩ .f32) : FVec F ⟨2, ![n, c]⟩ .f32 :=
  flip n c (xori (rowBit n k r) (rowBit n (k + 1) r)) v

/-- The rows whose number has the bit `j` set. -/
def upperRows (n j : ℕ) (r : IVec ⟨2, ![n, 1]⟩ 32) : IVec ⟨2, ![n, 1]⟩ 1 :=
  cmpi .ne (andi r (broadcast ⟨2, ![n, 1]⟩ (BitVec.ofNat 32 j))) (broadcast ⟨2, ![n, 1]⟩ 0#32)

/-- A row mask on every column. -/
def maskCols (n c : ℕ) (b : IVec ⟨2, ![n, 1]⟩ 1) : IVec ⟨2, ![n, c]⟩ 1 :=
  broadcastTo ⟨2, ![n, c]⟩ (shapeCast ⟨2, ![n, 1]⟩ b rfl) (spread n c)

/-- The rows moved `j` down, around the end. -/
def rollDown (n c j : ℕ) (hj : j ≤ n) (v : FVec F ⟨2, ![n, c]⟩ .f32) : FVec F ⟨2, ![n, c]⟩ .f32 :=
  concatenate ⟨2, ![n, c]⟩ 0
    [⟨⟨2, ![j, c]⟩, extractStridedSlice ⟨2, ![j, c]⟩ ![n - j, 0] v (rowsFit c (by omega))⟩,
      ⟨⟨2, ![n - j, c]⟩, extractStridedSlice ⟨2, ![n - j, c]⟩ ![0, 0] v (rowsFit c (by omega))⟩]
    (rowsJoin c (by omega))

/-- The rows moved `j` up, around the end. -/
def rollUp (n c j : ℕ) (hj : j ≤ n) (v : FVec F ⟨2, ![n, c]⟩ .f32) : FVec F ⟨2, ![n, c]⟩ .f32 :=
  concatenate ⟨2, ![n, c]⟩ 0
    [⟨⟨2, ![n - j, c]⟩, extractStridedSlice ⟨2, ![n - j, c]⟩ ![j, 0] v (rowsFit c (by omega))⟩,
      ⟨⟨2, ![j, c]⟩, extractStridedSlice ⟨2, ![j, c]⟩ ![0, 0] v (rowsFit c (by omega))⟩]
    (rowsJoin c (by omega))

/-- Each row's partner at distance `j`. -/
def partnerRows (n c j : ℕ) (hj : j ≤ n) (r : IVec ⟨2, ![n, 1]⟩ 32) (v : FVec F ⟨2, ![n, c]⟩ .f32) :
    FVec F ⟨2, ![n, c]⟩ .f32 :=
  select (maskCols n c (upperRows n j r)) (rollDown n c j hj v) (rollUp n c j hj v)

/-- The compare-exchange at distance `j` by two rotations: the lesser of a pair to its upper row, the greater to its lower. -/
def rollStep (n c j : ℕ) (hj : j ≤ n) (r : IVec ⟨2, ![n, 1]⟩ 32) (v : FVec F ⟨2, ![n, c]⟩ .f32) :
    FVec F ⟨2, ![n, c]⟩ .f32 :=
  select (maskCols n c (upperRows n j r)) (minimumf v (partnerRows n c j hj r v)) (maximumf v (partnerRows n c j hj r v))

/-- The `o`-th rows on of each slab of `2 * j` rows, `j` of them. -/
def half (g c j o : ℕ) (ho : o + j ≤ 2 * j) (w : FVec F ⟨3, ![g, 2 * j, c]⟩ .f32) : FVec F ⟨3, ![g, j, c]⟩ .f32 :=
  extractStridedSlice ⟨3, ![g, j, c]⟩ ![0, o, 0] w (slabFit g c ho)

/-- The compare-exchange of the two halves of each slab. -/
def slabExchange (g c j : ℕ) (w : FVec F ⟨3, ![g, 2 * j, c]⟩ .f32) : FVec F ⟨3, ![g, 2 * j, c]⟩ .f32 :=
  concatenate ⟨3, ![g, 2 * j, c]⟩ 1
    [⟨⟨3, ![g, j, c]⟩, maximumf (half g c j 0 (by omega) w) (half g c j j (by omega) w)⟩,
      ⟨⟨3, ![g, j, c]⟩, minimumf (half g c j 0 (by omega) w) (half g c j j (by omega) w)⟩]
    (slabJoin g j c)

/-- The compare-exchange at distance `j` by slabs of `2 * j` rows: the greater of a pair to its lower row. -/
def slabStep (n c g j : ℕ) (h : n = g * (2 * j)) (v : FVec F ⟨2, ![n, c]⟩ .f32) : FVec F ⟨2, ![n, c]⟩ .f32 :=
  shapeCast ⟨2, ![n, c]⟩ (slabExchange g c j (shapeCast ⟨3, ![g, 2 * j, c]⟩ v (slabCasts c h))) (slabCasts c h).symm

/-- `2 ^ s ≤ 2 ^ p` for a distance below the length. -/
theorem pow_fits {p s : ℕ} (h : s < p) : 2 ^ s ≤ 2 ^ p := Nat.pow_le_pow_right (by omega) h.le

/-- The slabs of two halves of `2 ^ s` rows in `2 ^ p` rows. -/
theorem pow_slabs {p s : ℕ} (h : s < p) : 2 ^ p = 2 ^ (p - (s + 1)) * (2 * 2 ^ s) := by
  rw [← Nat.pow_succ', ← Nat.pow_add]
  congr 1
  omega

/-- The compare-exchanges of one level at the distances `2 ^ s`, …, 2, 1. -/
def down (p c : ℕ) (r : IVec ⟨2, ![2 ^ p, 1]⟩ 32) :
    (s : ℕ) → s < p → FVec F ⟨2, ![2 ^ p, c]⟩ .f32 → FVec F ⟨2, ![2 ^ p, c]⟩ .f32
  | 0, h, v => rollStep (2 ^ p) c (2 ^ 0) (pow_fits h) r v
  | 1, h, v => down p c r 0 (by omega) (rollStep (2 ^ p) c (2 ^ 1) (pow_fits h) r v)
  | s + 2, h, v => down p c r (s + 1) (by omega) (slabStep (2 ^ p) c (2 ^ (p - (s + 2 + 1))) (2 ^ (s + 2)) (pow_slabs h) v)

/-- The first `l` levels of the sort of each column. -/
def levels (p c : ℕ) (r : IVec ⟨2, ![2 ^ p, 1]⟩ 32) :
    (l : ℕ) → l ≤ p → FVec F ⟨2, ![2 ^ p, c]⟩ .f32 → FVec F ⟨2, ![2 ^ p, c]⟩ .f32
  | 0, _, v => v
  | 1, h, v => down p c r 0 (by omega) (signFirst (2 ^ p) c r v)
  | l + 2, h, v => down p c r (l + 1) (by omega) (signNext (2 ^ p) c (l + 1) r (levels p c r (l + 1) (by omega) v))

end Steps

end Cert.Sort

end
-- ==== Proof.Payloads.lean ====
/-
  What the two kernels store is the sort of Stages.lean on their block: the first kernel's of the block's rows, turned to
  columns and back, the second's of its columns.
-/
module

public import proofs.«01_k».proof.Defs
public import proofs.«01_k».proof.Proof.Gen.KernelIdeal.Frame
public import proofs.«01_k».proof.Proof.Stages

@[expose] public section

noncomputable section

namespace Cert.Sort

open Idealize.ShloMosaic Cert.KernelIdeal Cert.KernelIdeal.Gen

variable {F : FTy → Type} [FloatOps F]

/-- The numbers of the 4096 rows that the first kernel sorts. -/
abbrev rows0 : IVec S4096x1 32 := iota .tc S4096x1 32 [0] iota_S4096x1_d0_w32

/-- The numbers of the 2048 rows that the second kernel sorts. -/
abbrev rows1 : IVec S2048x1 32 := iota .tc S2048x1 32 [0] iota_S2048x1_d0_w32

/-- The first kernel's block with its rows as columns. -/
def turned (x : Vec F S1x256x4096 .f32) : FVec F S4096x256 .f32 :=
  transpose S4096x256 [1, 0] (shapeCast S256x4096 x shapeCasts_S1x256x4096_S256x4096) transposes_S256x4096_p1_0_S4096x256

/-- Columns turned back to the rows of a block. -/
def turnedBack (v : FVec F S4096x256 .f32) : FVec F S1x256x4096 .f32 :=
  shapeCast S1x256x4096 (transpose S256x4096 [1, 0] v transposes_S4096x256_p1_0_S256x4096) shapeCasts_S256x4096_S1x256x4096

/-- The first kernel's store: its block's rows, turned to columns, through all twelve levels, and turned back. -/
theorem stored0 (x : Vec F S1x256x4096 .f32) :
    out0_1 x = View.canon [⟨r0_0, turnedBack (levels 12 256 rows0 12 (le_refl 12) (turned (View.ld x r0_0)))⟩] := rfl

/-- The second kernel's store: its block's columns through all eleven levels. -/
theorem stored1 (x : Vec F S1x2048x512 .f32) :
    out1_1 x = View.canon [⟨r1_0, shapeCast S1x2048x512 (levels 11 512 rows1 11 (le_refl 11)
      (shapeCast S2048x512 (View.ld x r1_0) shapeCasts_S1x2048x512_S2048x512)) shapeCasts_S2048x512_S1x2048x512⟩] := rfl

end Cert.Sort

end
-- ==== Proof.Entries.lean ====
/-
  The steps of Stages.lean read at one entry, over the extended reals: a sign multiplication negates the entry or leaves
  it, and a compare-exchange at distance `2 ^ s` leaves the greater of a pair at the row whose bit `s` is clear and the
  lesser at the row whose bit is set, whichever of the two ways it is written.
-/
module

public import proofs.«01_k».proof.Proof.Stages
public import Idealize.ShloMosaic.Lib.SortNet.Bitonic

@[expose] public section

noncomputable section

namespace Cert.Sort

open Idealize.ShloMosaic

/-! ## Words of row numbers -/

/-- A bit as a 32-bit word. -/
def bitWord (b : Bool) : BitVec 32 := if b then 1#32 else 0#32

/-- The exclusive or of two bits, as words. -/
theorem bitWord_xor (a b : Bool) : IntOp.xori (bitWord a) (bitWord b) = bitWord (a ^^ b) := by
  cases a <;> cases b <;> rfl

/-- The lowest bit of a row number moved down by `k` is its bit `k`. -/
theorem shift_and_one (x k : ℕ) (hx : x < 2 ^ 31) (hk : k < 32) :
    IntOp.andi (IntOp.shrsi ArithUnit.vector (BitVec.ofNat 32 x) (BitVec.ofNat 32 k)) 1#32 = bitWord (x.testBit k) := by
  have hkn : (BitVec.ofNat 32 k).toNat = k := by
    rw [BitVec.toNat_ofNat]; exact Nat.mod_eq_of_lt (by omega)
  have hxn : (BitVec.ofNat 32 x).toNat = x := by
    rw [BitVec.toNat_ofNat]; exact Nat.mod_eq_of_lt (by omega)
  have hm : (BitVec.ofNat 32 x).msb = false := by
    rw [BitVec.msb_eq_false_iff_two_mul_lt, hxn]; omega
  have hs : IntOp.shrsi ArithUnit.vector (BitVec.ofNat 32 x) (BitVec.ofNat 32 k) = (BitVec.ofNat 32 x) >>> k := by
    unfold IntOp.shrsi
    rw [if_pos (by rw [hkn]; exact hk)]
    show (BitVec.ofNat 32 x).sshiftRight (BitVec.ofNat 32 k).toNat = _
    rw [hkn, BitVec.sshiftRight_eq_of_msb_false hm]
  rw [hs]
  apply BitVec.eq_of_toNat_eq
  show ((BitVec.ofNat 32 x >>> k) &&& 1#32).toNat = _
  rw [BitVec.toNat_and, BitVec.toNat_ushiftRight, hxn]
  show (x >>> k) &&& 1 = _
  rw [Nat.and_one_is_mod, Nat.shiftRight_eq_div_pow, bitWord, Nat.testBit_eq_decide_div_mod_eq]
  rcases Nat.mod_two_eq_zero_or_one (x / 2 ^ k) with h | h <;> rw [h] <;> rfl

/-- Whether a row number has the bit `2 ^ s`, by words. -/
theorem and_pow_ne (x s : ℕ) (hx : x < 2 ^ 31) (hs : s < 31) :
    IntOp.cmpi CmpIPredicate.ne (IntOp.andi (BitVec.ofNat 32 x) (BitVec.ofNat 32 (2 ^ s))) 0#32
      = BitVec.ofBool (x.testBit s) := by
  have hp : 2 ^ s < 2 ^ 31 := Nat.pow_lt_pow_right (by omega) hs
  have hand : (IntOp.andi (BitVec.ofNat 32 x) (BitVec.ofNat 32 (2 ^ s))).toNat = x &&& 2 ^ s := by
    show (BitVec.ofNat 32 x &&& BitVec.ofNat 32 (2 ^ s)).toNat = _
    rw [BitVec.toNat_and, BitVec.toNat_ofNat, BitVec.toNat_ofNat, Nat.mod_eq_of_lt (by omega), Nat.mod_eq_of_lt (by omega)]
  by_cases hb : x.testBit s
  · have hne : ¬ x &&& 2 ^ s = 0 := by rw [SortNet.and_two_pow_eq_zero_iff_testBit]; simp [hb]
    have : IntOp.andi (BitVec.ofNat 32 x) (BitVec.ofNat 32 (2 ^ s)) ≠ 0#32 := fun h => hne (by rw [← hand, h]; rfl)
    rw [hb]
    show BitVec.ofBool (_ != _) = _
    rw [bne_iff_ne.mpr this]
  · have hb' : x.testBit s = false := by simpa using hb
    have : IntOp.andi (BitVec.ofNat 32 x) (BitVec.ofNat 32 (2 ^ s)) = 0#32 :=
      BitVec.eq_of_toNat_eq (by rw [hand, (SortNet.and_two_pow_eq_zero_iff_testBit x s).mpr hb']; rfl)
    rw [hb', this]
    rfl

/-! ## The signs -/

/-- An extended real, negated where the bit is set. -/
def signed (b : Bool) (x : EReal) : EReal := if b then -x else x

/-- Two negations. -/
theorem signed_signed (a b : Bool) (x : EReal) : signed a (signed b x) = signed (a ^^ b) x := by
  cases a <;> cases b <;> simp [signed]

/-- `r` holds the row numbers. -/
def IsRows {n : ℕ} (r : IVec ⟨2, ![n, 1]⟩ 32) : Prop := ∀ i : Fin n, r (ix2 i 0) = BitVec.ofNat 32 i.val

/-- One column spread over the others, read at one entry. -/
theorem spread_apply {α : Type} {n c : ℕ} (x : (⟨2, ![n, 1]⟩ : Shape).Idx → α) (i : Fin n) (k : Fin c) :
    broadcastTo ⟨2, ![n, c]⟩ x (spread n c) (ix2 i k) = x (ix2 i 0) := by
  unfold broadcastTo
  congr 1
  funext a
  match a with
  | ⟨0, _⟩ =>
    refine Fin.ext ?_
    have hi := i.isLt
    split
    · rename_i h1
      change n = 1 at h1
      show 0 = i.val
      omega
    · rfl
  | ⟨1, _⟩ => rfl

/-- A multiplication by signs at one entry. -/
theorem flip_apply {n c : ℕ} (bits : IVec ⟨2, ![n, 1]⟩ 32) (v : FVec Ideal ⟨2, ![n, c]⟩ .f32) (i : Fin n) (k : Fin c)
    (b : Bool) (hb : bits (ix2 i 0) = bitWord b) : flip n c bits v (ix2 i k) = signed b (v (ix2 i k)) := by
  unfold flip
  rw [mulf_apply, spread_apply]
  show v (ix2 i k) * (((IntOp.subi 1#32 (IntOp.muli 2#32 (bits (ix2 i 0)))).toInt : ℝ) : EReal) = _
  rw [hb]
  show v (ix2 i k) * (((IntOp.subi 1#32 (IntOp.muli 2#32 (bitWord b))).toInt : ℝ) : EReal) = _
  cases b
  · have : (IntOp.subi 1#32 (IntOp.muli 2#32 (bitWord false))).toInt = 1 := by decide
    rw [this]; simp [signed]
  · have : (IntOp.subi 1#32 (IntOp.muli 2#32 (bitWord true))).toInt = -1 := by decide
    rw [this]; simp [signed]

/-- A row number's bit at one row. -/
theorem rowBit_apply {n : ℕ} (hn : n ≤ 2 ^ 31) (k : ℕ) (hk : k < 32) (r : IVec ⟨2, ![n, 1]⟩ 32) (hr : IsRows r)
    (i : Fin n) : rowBit n k r (ix2 i 0) = bitWord (i.val.testBit k) := by
  unfold rowBit
  pointwise
  rw [hr i]
  exact shift_and_one _ _ (lt_of_lt_of_le i.isLt hn) hk

/-- The first level's signs at one entry. -/
theorem signFirst_apply {n c : ℕ} (hn : n ≤ 2 ^ 31) (r : IVec ⟨2, ![n, 1]⟩ 32) (hr : IsRows r)
    (v : FVec Ideal ⟨2, ![n, c]⟩ .f32) (i : Fin n) (k : Fin c) :
    signFirst n c r v (ix2 i k) = signed (i.val.testBit 1) (v (ix2 i k)) := by
  unfold signFirst
  refine flip_apply _ _ _ _ _ ?_
  show IntOp.xori (bitWord false) (rowBit n 1 r (ix2 i 0)) = _
  rw [rowBit_apply hn 1 (by omega) r hr, bitWord_xor, Bool.false_xor]

/-- The change of signs from one level to the next at one entry. -/
theorem signNext_apply {n c : ℕ} (hn : n ≤ 2 ^ 31) (l : ℕ) (hl : l + 1 < 32) (r : IVec ⟨2, ![n, 1]⟩ 32) (hr : IsRows r)
    (v : FVec Ideal ⟨2, ![n, c]⟩ .f32) (i : Fin n) (k : Fin c) :
    signNext n c l r v (ix2 i k) = signed (i.val.testBit l ^^ i.val.testBit (l + 1)) (v (ix2 i k)) := by
  unfold signNext
  refine flip_apply _ _ _ _ _ ?_
  show IntOp.xori (rowBit n l r (ix2 i 0)) (rowBit n (l + 1) r (ix2 i 0)) = _
  rw [rowBit_apply hn l (by omega) r hr, rowBit_apply hn (l + 1) hl r hr, bitWord_xor]

/-! ## The compare-exchanges -/

/-- The row mask at one entry. -/
theorem upper_apply {n c : ℕ} (hn : n ≤ 2 ^ 31) (s : ℕ) (hs : s < 31) (r : IVec ⟨2, ![n, 1]⟩ 32) (hr : IsRows r)
    (i : Fin n) (k : Fin c) : maskCols n c (upperRows n (2 ^ s) r) (ix2 i k) = BitVec.ofBool (i.val.testBit s) := by
  unfold maskCols upperRows
  rw [spread_apply]
  pointwise
  rw [hr i]
  exact and_pow_ne _ _ (lt_of_lt_of_le i.isLt hn) hs

/-- Rows moved down, at a row with one `j` above it. -/
theorem rollDown_apply {n c j : ℕ} (hj : j ≤ n) (v : FVec Ideal ⟨2, ![n, c]⟩ .f32) (i : Fin n) (k : Fin c)
    (hi : j ≤ i.val) : rollDown n c j hj v (ix2 i k) = v (ix2 ⟨i.val - j, by omega⟩ k) := by
  unfold rollDown
  pointwise
  rw [dif_neg (by omega)]

/-- Rows moved up, at a row with one `j` below it. -/
theorem rollUp_apply {n c j : ℕ} (hj : j ≤ n) (v : FVec Ideal ⟨2, ![n, c]⟩ .f32) (i : Fin n) (k : Fin c)
    (hi : i.val + j < n) : rollUp n c j hj v (ix2 i k) = v (ix2 ⟨i.val + j, hi⟩ k) := by
  unfold rollUp
  pointwise
  rw [dif_pos (by omega)]
  congr 2
  exact Fin.ext (Nat.add_comm _ _)

/-- What a compare-exchange at distance `2 ^ s` leaves in the vector `w`, of the vector `v`: at a row whose bit `s` is clear
    the greater of the row's entry and its partner's, at a row whose bit is set the lesser. -/
def Exchanged (p c s : ℕ) (v w : FVec Ideal ⟨2, ![2 ^ p, c]⟩ .f32) : Prop :=
  ∀ (i : Fin (2 ^ p)) (k : Fin c), w (ix2 i k) =
    if i.val.testBit s then min (v (ix2 (SortNet.partner p s i) k)) (v (ix2 i k))
    else max (v (ix2 i k)) (v (ix2 (SortNet.partner p s i) k))

/-- The compare-exchange by rotations. -/
theorem rollStep_exchanged {p c s : ℕ} (hp : p ≤ 31) (hs : s < p) (hj : 2 ^ s ≤ 2 ^ p) (r : IVec ⟨2, ![2 ^ p, 1]⟩ 32)
    (hr : IsRows r) (v : FVec Ideal ⟨2, ![2 ^ p, c]⟩ .f32) : Exchanged p c s v (rollStep (2 ^ p) c (2 ^ s) hj r v) := by
  intro i k
  have hn : 2 ^ p ≤ 2 ^ 31 := Nat.pow_le_pow_right (by omega) hp
  have hm := upper_apply (c := c) hn s (by omega) r hr i k
  have hpart : partnerRows (2 ^ p) c (2 ^ s) hj r v (ix2 i k) = v (ix2 (SortNet.partner p s i) k) := by
    unfold partnerRows
    rw [ValueIdx.select_apply, hm]
    by_cases hb : i.val.testBit s
    · have hset : i.val &&& 2 ^ s ≠ 0 := by
        intro h; rw [SortNet.and_two_pow_eq_zero_iff_testBit] at h; simp [h] at hb
      have hle : 2 ^ s ≤ i.val := Nat.ge_two_pow_of_testBit hb
      rw [hb]
      show rollDown (2 ^ p) c (2 ^ s) hj v (ix2 i k) = _
      rw [rollDown_apply hj v i k hle]
      congr 2
      have := SortNet.partner_val_of_set hs i hset
      exact Fin.ext (by simp only; omega)
    · have hb' : i.val.testBit s = false := by simpa using hb
      have hcl : i.val &&& 2 ^ s = 0 := (SortNet.and_two_pow_eq_zero_iff_testBit _ _).mpr hb'
      have hv := SortNet.partner_val_of_clear hs i hcl
      have hlt := (SortNet.partner p s i).isLt
      rw [hb']
      show rollUp (2 ^ p) c (2 ^ s) hj v (ix2 i k) = _
      rw [rollUp_apply hj v i k (by omega)]
      congr 2
      exact Fin.ext (by simp only; omega)
  unfold rollStep
  rw [ValueIdx.select_apply, hm]
  show Scalar.select _ (min (v (ix2 i k)) (partnerRows (2 ^ p) c (2 ^ s) hj r v (ix2 i k)))
    (max (v (ix2 i k)) (partnerRows (2 ^ p) c (2 ^ s) hj r v (ix2 i k))) = _
  rw [hpart]
  cases i.val.testBit s
  · rfl
  · exact min_comm _ _

/-- The exchange of two halves at one entry. -/
theorem slabExchange_apply (g c j : ℕ) (w : FVec Ideal ⟨3, ![g, 2 * j, c]⟩ .f32) (a : Fin g) (b : Fin (2 * j)) (k : Fin c) :
    slabExchange g c j w (ix3 a b k) =
      if h : b.val < j then max (w (ix3 a b k)) (w (ix3 a ⟨b.val + j, by omega⟩ k))
      else min (w (ix3 a ⟨b.val - j, by omega⟩ k)) (w (ix3 a b k)) := by
  unfold slabExchange half
  pointwise
  split
  · congr 3; exact Fin.ext (Nat.add_comm _ _)
  · congr 3; exact Fin.ext (by simp only; omega)

/-- `n = g * m` rows as `g` slabs of `m`, read at one entry. -/
theorem toSlabs_apply {n g m c : ℕ} (h : n = g * m) (v : FVec Ideal ⟨2, ![n, c]⟩ .f32) (a : Fin g) (b : Fin m) (k : Fin c)
    (i : Fin n) (hi : i.val = a.val * m + b.val) :
    shapeCast ⟨3, ![g, m, c]⟩ v (slabCasts c h) (ix3 a b k) = v (ix2 i k) := by
  unfold shapeCast
  congr 1
  refine Shape.reshapeEquiv_eq_of_rowMajor _ ?_
  rw [Shape.rowMajor_val_two, Shape.rowMajor_val_three]
  show i.val * c + k.val = (a.val * m + b.val) * c + k.val
  rw [hi]

/-- Slabs back as rows, read at one entry. -/
theorem ofSlabs_apply {n g m c : ℕ} (h : n = g * m) (w : FVec Ideal ⟨3, ![g, m, c]⟩ .f32) (a : Fin g) (b : Fin m)
    (k : Fin c) (i : Fin n) (hi : i.val = a.val * m + b.val) :
    shapeCast ⟨2, ![n, c]⟩ w (slabCasts c h).symm (ix2 i k) = w (ix3 a b k) := by
  unfold shapeCast
  congr 1
  refine Shape.reshapeEquiv_eq_of_rowMajor _ ?_
  rw [Shape.rowMajor_val_two, Shape.rowMajor_val_three]
  show (a.val * m + b.val) * c + k.val = i.val * c + k.val
  rw [hi]

/-- The compare-exchange by slabs. -/
theorem slabStep_exchanged {p c s g : ℕ} (hs : s < p) (h : 2 ^ p = g * (2 * 2 ^ s)) (v : FVec Ideal ⟨2, ![2 ^ p, c]⟩ .f32) :
    Exchanged p c s v (slabStep (2 ^ p) c g (2 ^ s) h v) := by
  intro i k
  have hpos : 0 < 2 * 2 ^ s := by positivity
  have ha : i.val / (2 * 2 ^ s) < g := Nat.div_lt_of_lt_mul (by rw [Nat.mul_comm, ← h]; exact i.isLt)
  have hdm : i.val / (2 * 2 ^ s) * (2 * 2 ^ s) + i.val % (2 * 2 ^ s) = i.val := by
    rw [Nat.mul_comm]; exact Nat.div_add_mod _ _
  have hmod := Nat.mod_lt i.val hpos
  have hbit : i.val.testBit s = decide (2 ^ s ≤ i.val % (2 * 2 ^ s)) := by
    rw [Nat.testBit_eq_decide_div_mod_eq, Nat.mul_comm 2, Nat.mod_mul]
    have h2 := Nat.mod_two_eq_zero_or_one (i.val / 2 ^ s)
    have h3 := Nat.mod_lt i.val (Nat.two_pow_pos s)
    rcases h2 with h2 | h2 <;> rw [h2]
    · simp only [Nat.mul_zero, Nat.add_zero]
      rw [decide_eq_false (by omega), decide_eq_false (by omega)]
    · rw [decide_eq_true rfl, decide_eq_true (by omega)]
  unfold slabStep
  rw [ofSlabs_apply h _ ⟨_, ha⟩ ⟨_, hmod⟩ k i hdm.symm, slabExchange_apply,
    toSlabs_apply h v ⟨_, ha⟩ ⟨_, hmod⟩ k i hdm.symm]
  by_cases hlt : i.val % (2 * 2 ^ s) < 2 ^ s
  · have hb : i.val.testBit s = false := by rw [hbit, decide_eq_false (by omega)]
    have hv := SortNet.partner_val_of_clear hs i ((SortNet.and_two_pow_eq_zero_iff_testBit _ _).mpr hb)
    rw [dif_pos hlt, hb, toSlabs_apply h v ⟨_, ha⟩ ⟨_, _⟩ k (SortNet.partner p s i) (by simp only; omega)]
    rfl
  · have hb : i.val.testBit s = true := by rw [hbit, decide_eq_true (by omega)]
    have hset : i.val &&& 2 ^ s ≠ 0 := by
      intro h; rw [SortNet.and_two_pow_eq_zero_iff_testBit] at h; simp [h] at hb
    have hv := SortNet.partner_val_of_set hs i hset
    rw [dif_neg hlt, hb, toSlabs_apply h v ⟨_, ha⟩ ⟨_, _⟩ k (SortNet.partner p s i) (by simp only; omega)]
    rfl

end Cert.Sort

end
-- ==== Proof.Columns.lean ====
/-
  The kernel's levels sort each column in descending order. Behind its signs a column runs through Batcher's network: the
  rows that a level negates are those whose pairs the network orders the other way round, so at every step the entries held
  are the network's, negated where the level's bit of the row number is set (`Column`).
-/
module

public import proofs.«01_k».proof.Proof.Entries
public import Idealize.ShloMosaic.Lib.SortNet.Sorts

@[expose] public section

noncomputable section

namespace Cert.Sort

open Idealize.ShloMosaic Idealize.ShloMosaic.SortNet

variable {p c : ℕ}

/-- Column `k` of `v` holds the entries `E`, negated at the rows where `b` is set. -/
def Column (b : ℕ → Bool) (v : FVec Ideal ⟨2, ![2 ^ p, c]⟩ .f32) (k : Fin c) (E : Fin (2 ^ p) → EReal) : Prop :=
  ∀ i : Fin (2 ^ p), v (ix2 i k) = signed (b i.val) (E i)

/-- The network's direction at level `l`: descending where the next bit of the position is clear. -/
abbrev dir (p l : ℕ) (i : Fin (2 ^ p)) : Bool := decide (i.val &&& 2 ^ (l + 1) = 0) == true

/-- The direction is the negation of the sign bit. -/
theorem dir_eq (l : ℕ) (i : Fin (2 ^ p)) : dir p l i = !i.val.testBit (l + 1) := by
  unfold dir
  by_cases h : i.val.testBit (l + 1)
  · have : ¬ i.val &&& 2 ^ (l + 1) = 0 := by rw [and_two_pow_eq_zero_iff_testBit]; simp [h]
    simp [h, this]
  · have h' : i.val.testBit (l + 1) = false := by simpa using h
    simp [h', (and_two_pow_eq_zero_iff_testBit _ _).mpr h']

/-- Partners at a smaller distance have the same sign bit. -/
theorem partner_testBit {s l : ℕ} (hs : s < p) (hl : s ≤ l) (i : Fin (2 ^ p)) :
    (partner p s i).val.testBit (l + 1) = i.val.testBit (l + 1) := by
  rw [partner_val hs, Nat.testBit_xor, Nat.testBit_two_pow_of_ne (by omega), Bool.xor_false]

/-- Negation turns the order round. -/
theorem neg_antitone : Antitone fun x : EReal => -x := fun _ _ h => EReal.neg_le_neg_iff.mpr h

/-- The greater of two negated entries is the lesser's negation. -/
theorem max_signed (b : Bool) (x y : EReal) :
    max (signed b x) (signed b y) = signed b (if (!b) = true then max x y else min x y) := by
  cases b
  · rfl
  · simp only [signed, if_true, Bool.not_true, Bool.false_eq_true, if_false]
    exact (neg_antitone.map_min (a := x) (b := y)).symm

/-- The lesser of two negated entries is the greater's negation. -/
theorem min_signed (b : Bool) (x y : EReal) :
    min (signed b x) (signed b y) = signed b (if (!b) = true then min x y else max x y) := by
  cases b
  · rfl
  · simp only [signed, if_true, Bool.not_true, Bool.false_eq_true, if_false]
    exact (neg_antitone.map_max (a := x) (b := y)).symm

/-- A compare-exchange is the network's stage behind the signs. -/
theorem Exchanged.column {s l : ℕ} (hs : s < p) (hl : s ≤ l) {v w : FVec Ideal ⟨2, ![2 ^ p, c]⟩ .f32}
    (h : Exchanged p c s v w) {k : Fin c} {E : Fin (2 ^ p) → EReal} (hv : Column (fun x => x.testBit (l + 1)) v k E) :
    Column (fun x => x.testBit (l + 1)) w k (Network.apply (stage p s (dir p l)) E) := by
  intro i
  have hb := partner_testBit hs hl i
  rw [h i k, hv i, hv (partner p s i)]
  simp only [hb]
  by_cases hi : i.val.testBit s
  · have hset : i.val &&& 2 ^ s ≠ 0 := by
      intro h0; rw [and_two_pow_eq_zero_iff_testBit] at h0; simp [h0] at hi
    have e := (apply_stage hs (dir p l) E (partner p s i) (partner_and_of_set hs i hset)).2
    rw [partner_partner hs, dir_eq, hb] at e
    rw [if_pos hi, e, min_signed]
  · have hi' : i.val.testBit s = false := by simpa using hi
    have e := (apply_stage hs (dir p l) E i ((and_two_pow_eq_zero_iff_testBit _ _).mpr hi')).1
    rw [dir_eq] at e
    rw [if_neg hi, e, max_signed]

/-- A level's stages from distance `2 ^ s` down. -/
def downNet (p l s : ℕ) : Network (2 ^ p) := (List.range (s + 1)).reverse.flatMap fun t => stage p t (dir p l)

/-- The stage at the greatest distance comes first. -/
theorem downNet_succ (l s : ℕ) : downNet p l (s + 1) = stage p (s + 1) (dir p l) ++ downNet p l s := by
  unfold downNet
  rw [List.range_succ, List.reverse_append]
  rfl

/-- The last stage alone. -/
theorem downNet_zero (l : ℕ) : downNet p l 0 = stage p 0 (dir p l) := by
  unfold downNet
  simp

/-- A level's compare-exchanges are the network's stages. -/
theorem down_column (hp : p ≤ 31) (r : IVec ⟨2, ![2 ^ p, 1]⟩ 32) (hr : IsRows r) (l : ℕ) (k : Fin c) :
    ∀ (s : ℕ) (hs : s < p) (_ : s ≤ l) (v : FVec Ideal ⟨2, ![2 ^ p, c]⟩ .f32) (E : Fin (2 ^ p) → EReal),
      Column (fun x => x.testBit (l + 1)) v k E →
      Column (fun x => x.testBit (l + 1)) (down p c r s hs v) k (Network.apply (downNet p l s) E)
  | 0, hs, hl, v, E, hv => by
    rw [downNet_zero]
    exact (rollStep_exchanged hp hs (pow_fits hs) r hr v).column hs hl hv
  | 1, hs, hl, v, E, hv => by
    rw [downNet_succ, Network.apply_append]
    exact down_column hp r hr l k 0 (by omega) (by omega) _ _
      ((rollStep_exchanged hp hs (pow_fits hs) r hr v).column hs hl hv)
  | s + 2, hs, hl, v, E, hv => by
    rw [downNet_succ, Network.apply_append]
    exact down_column hp r hr l k (s + 1) (by omega) (by omega) _ _
      ((slabStep_exchanged hs (pow_slabs hs) v).column hs hl hv)

/-- The network's first `l` levels. -/
def levelsNet' (p l : ℕ) : Network (2 ^ p) := (List.range l).flatMap fun t => downNet p t t

/-- One more level. -/
theorem levelsNet'_succ (l : ℕ) : levelsNet' p (l + 1) = levelsNet' p l ++ downNet p l l := by
  unfold levelsNet'
  rw [List.range_succ, List.flatMap_append]
  simp

/-- The signs of level `l`: none before the first. -/
def signBit : ℕ → ℕ → Bool
  | 0 => fun _ => false
  | l + 1 => fun x => x.testBit (l + 1)

/-- After `l` levels a column holds what the network's first `l` levels leave, behind the last level's signs. -/
theorem levels_column (hp : p ≤ 31) (r : IVec ⟨2, ![2 ^ p, 1]⟩ 32) (hr : IsRows r) (k : Fin c)
    (v : FVec Ideal ⟨2, ![2 ^ p, c]⟩ .f32) (E : Fin (2 ^ p) → EReal) (hv : ∀ i, v (ix2 i k) = E i) :
    ∀ (l : ℕ) (hl : l ≤ p), Column (signBit l) (levels p c r l hl v) k (Network.apply (levelsNet' p l) E)
  | 0, _ => fun i => hv i
  | 1, hl => by
    rw [levelsNet'_succ, Network.apply_append]
    have hn : 2 ^ p ≤ 2 ^ 31 := Nat.pow_le_pow_right (by omega) hp
    refine down_column hp r hr 0 k 0 (by omega) (le_refl 0) _ _ fun i => ?_
    rw [signFirst_apply hn r hr, hv i]
    rfl
  | l + 2, hl => by
    rw [levelsNet'_succ, Network.apply_append]
    have hn : 2 ^ p ≤ 2 ^ 31 := Nat.pow_le_pow_right (by omega) hp
    refine down_column hp r hr (l + 1) k (l + 1) (by omega) (le_refl _) _ _ fun i => ?_
    rw [signNext_apply hn (l + 1) (by omega) r hr, levels_column hp r hr k v E hv (l + 1) (by omega) i, signed_signed]
    congr 1
    show (i.val.testBit (l + 1) ^^ i.val.testBit (l + 2) ^^ i.val.testBit (l + 1)) = i.val.testBit (l + 2)
    cases i.val.testBit (l + 1) <;> cases i.val.testBit (l + 2) <;> rfl

/-- All levels leave a column as the whole network leaves its entries: the last level negates nothing. -/
theorem levels_apply (hp : p ≤ 31) (r : IVec ⟨2, ![2 ^ p, 1]⟩ 32) (hr : IsRows r)
    (v : FVec Ideal ⟨2, ![2 ^ p, c]⟩ .f32) (i : Fin (2 ^ p)) (k : Fin c) :
    levels p c r p (le_refl p) v (ix2 i k) = Network.apply (sortNet p true) (fun j => v (ix2 j k)) i := by
  rw [levels_column hp r hr k v (fun j => v (ix2 j k)) (fun _ => rfl) p (le_refl p) i]
  have h : signBit p i.val = false := by
    cases p with
    | zero => rfl
    | succ q => exact Nat.testBit_lt_two_pow i.isLt
  rw [h]
  rfl

end Cert.Sort

end
-- ==== Proof.Blocks.lean ====
/-
  What one block of each kernel computes, entry by entry: the first kernel leaves every row of its block sorted from
  greatest to least, the second every column, both as the sorting network does.
-/
module

public import proofs.«01_k».proof.Proof.Payloads
public import proofs.«01_k».proof.Proof.Columns
public import Idealize.ShloMosaic.Lib.Pipeline.ValueKit

@[expose] public section

noncomputable section

namespace Cert.Sort

open Idealize.ShloMosaic Idealize.ShloMosaic.SortNet Cert.KernelIdeal Cert.KernelIdeal.Gen

/-- The first kernel's row numbers are the row numbers. -/
theorem rows0_isRows : IsRows (n := 4096) rows0 := by
  intro i
  show BitVec.ofNat 32 (0 * 4096 + i.val) = _
  rw [Nat.zero_mul, Nat.zero_add]

/-- The second kernel's row numbers are the row numbers. -/
theorem rows1_isRows : IsRows (n := 2048) rows1 := by
  intro i
  show BitVec.ofNat 32 (0 * 2048 + i.val) = _
  rw [Nat.zero_mul, Nat.zero_add]

/-- A block's rows as columns. -/
theorem turned_apply (x : Vec Ideal S1x256x4096 .f32) (i : Fin 4096) (k : Fin 256) :
    turned x (ix2 i k) = x (ix3 0 k i) := by
  unfold turned
  pointwise

/-- Columns as a block's rows. -/
theorem turnedBack_apply (v : FVec Ideal S4096x256 .f32) (k : Fin 256) (i : Fin 4096) :
    turnedBack v (ix3 0 k i) = v (ix2 i k) := by
  unfold turnedBack
  pointwise

/-- The offsets of a whole block. -/
theorem origin : (![0, 0, 0] : Fin 3 → ℕ) = fun _ => 0 := by
  funext a
  match a with
  | ⟨0, _⟩ => rfl
  | ⟨1, _⟩ => rfl
  | ⟨2, _⟩ => rfl

/-- The first kernel's block, entry by entry: row `k` sorted. -/
theorem block0 (x : Vec Ideal S1x256x4096 .f32) (k : Fin 256) (i : Fin 4096) :
    out0_1 x (ix3 0 k i) = Network.apply (sortNet 12 true) (fun j : Fin (2 ^ 12) => x (ix3 0 k j)) i := by
  rw [stored0, View.canon_unit_zero origin, View.ld_unit_zero (S := S1x256x4096) origin, turnedBack_apply]
  refine (levels_apply (p := 12) (c := 256) (by decide) rows0 rows0_isRows (turned x) i k).trans ?_
  refine congrArg (fun f => Network.apply (sortNet 12 true) f i) ?_
  funext j
  exact turned_apply x j k

/-- The second kernel's block, entry by entry: column `k` sorted. -/
theorem block1 (x : Vec Ideal S1x2048x512 .f32) (i : Fin 2048) (k : Fin 512) :
    out1_1 x (ix3 0 i k) = Network.apply (sortNet 11 true) (fun j : Fin (2 ^ 11) => x (ix3 0 j k)) i := by
  rw [stored1, View.canon_unit_zero origin, View.ld_unit_zero (S := S1x2048x512) origin]
  have hback : ∀ v : FVec Ideal S2048x512 .f32,
      shapeCast S1x2048x512 v shapeCasts_S2048x512_S1x2048x512 (ix3 0 i k) = v (ix2 i k) := by
    intro v
    pointwise
  have hto : ∀ j : Fin 2048, shapeCast S2048x512 x shapeCasts_S1x2048x512_S2048x512 (ix2 j k) = x (ix3 0 j k) := by
    intro j
    pointwise
  rw [hback]
  refine (levels_apply (p := 11) (c := 512) (by decide) rows1 rows1_isRows _ i k).trans ?_
  refine congrArg (fun f => Network.apply (sortNet 11 true) f i) ?_
  funext j
  exact hto j

end Cert.Sort

end
-- ==== Proof.Arrays.lean ====
/-
  What the arrays hold after each kernel has run over its whole grid: after the first, every row of its argument sorted
  from greatest to least; after the second, every column of its argument.
-/
module

public import proofs.«01_k».proof.Proof.Blocks

@[expose] public section

noncomputable section

namespace Cert.Sort

open Idealize.ShloMosaic Idealize.ShloMosaic.TcCoe Idealize.ShloMosaic.SortNet Cert.KernelIdeal Cert.KernelIdeal.Gen

/-- Every row (last axis) of a stack of matrices sorted from greatest to least. -/
def sortRows (x : FVec Ideal S4x2048x4096 .f32) : FVec Ideal S4x2048x4096 .f32 :=
  fun y => Network.apply (sortNet 12 true) (fun j : Fin (2 ^ 12) => x (ix3 (y 0) (y 1) j)) (y 2)

/-- Every column (middle axis) of a stack of matrices sorted from greatest to least. -/
def sortCols (x : FVec Ideal S4x2048x4096 .f32) : FVec Ideal S4x2048x4096 .f32 :=
  fun y => Network.apply (sortNet 11 true) (fun i : Fin (2 ^ 11) => x (ix3 (y 0) i (y 2))) (y 1)

/-- The first kernel reads and writes the same block at each grid point, of whole rows. -/
theorem blocks0 : ∀ t : Fin grid0.N, (∀ a : Fin 3, win0_0.index t a = win0_1.index t a) ∧ win0_1.index t 2 = 0 := by
  decide +kernel

/-- The second kernel reads and writes the same block at each grid point, of whole columns. -/
theorem blocks1 : ∀ t : Fin grid1.N, (∀ a : Fin 3, win1_0.index t a = win1_1.index t a) ∧ win1_1.index t 1 = 0 := by
  decide +kernel

variable (V : (c : Dev nD) → (b : Ref sig .tc) → Buf (Elt Ideal) ((c : Thread nD τ).loc b))

/-- The first kernel's output array: the rows of its argument array, sorted. -/
theorem array0 (c : Dev nD) : (dat0 V c).arrAt 1 cfg0.N = sortRows (V c main_arg0) := by
  refine (dat0 V c).arrAt_eq_of_covers 1 _ (by decide +kernel) fun t hf y => ?_
  blk_simp
  rw [after0_1]
  obtain ⟨h, h2⟩ := blocks0 t
  have hy : y = ix3 (0 : Fin 1) (y 1 : Fin 256) (y 2 : Fin 4096) := by
    refine (eq_ix3 (n0 := 1) (n1 := 256) (n2 := 4096) y).trans ?_
    exact congrArg (fun a : Fin 1 => ix3 a (y 1 : Fin 256) (y 2 : Fin 4096)) (Subsingleton.elim (α := Fin 1) (y 0) 0)
  have hlast : (win0_1.blk t).view.emb y 2 = (y 2 : Fin 4096) := by
    refine Fin.ext ?_
    blk_simp
    rw [h2]
    omega
  refine (congrArg (out0_1 (iblk0 V c 0 t)) hy).trans ((block0 _ _ _).trans ?_)
  unfold sortRows
  rw [hlast]
  refine congrArg (fun f => Network.apply (sortNet 12 true) f (y 2)) ?_
  funext j
  show V c main_arg0 ((win0_0.blk t).view.emb (ix3 (0 : Fin 1) (y 1 : Fin 256) j)) = _
  refine congrArg (V c main_arg0) ?_
  have h0 := h 0
  have h1 := h 1
  have h2' := h 2
  have hy0 : (y 0 : Fin 1).val = 0 := congrArg Fin.val (Subsingleton.elim (α := Fin 1) (y 0) 0)
  funext a
  refine Fin.ext ?_
  match a with
  | ⟨0, _⟩ => blk_simp; omega
  | ⟨1, _⟩ => blk_simp; omega
  | ⟨2, _⟩ => blk_simp; omega

/-- The second kernel's output array: the columns of its argument array, sorted. -/
theorem array1 (c : Dev nD) : (dat1 V c).arrAt 1 cfg1.N = sortCols (V c main_v0) := by
  refine (dat1 V c).arrAt_eq_of_covers 1 _ (by decide +kernel) fun t hf y => ?_
  blk_simp
  rw [after1_1]
  obtain ⟨h, h2⟩ := blocks1 t
  have hy : y = ix3 (0 : Fin 1) (y 1 : Fin 2048) (y 2 : Fin 512) := by
    refine (eq_ix3 (n0 := 1) (n1 := 2048) (n2 := 512) y).trans ?_
    exact congrArg (fun a : Fin 1 => ix3 a (y 1 : Fin 2048) (y 2 : Fin 512)) (Subsingleton.elim (α := Fin 1) (y 0) 0)
  have hlast : (win1_1.blk t).view.emb y 1 = (y 1 : Fin 2048) := by
    refine Fin.ext ?_
    blk_simp
    rw [h2]
    omega
  refine (congrArg (out1_1 (iblk1 V c 0 t)) hy).trans ((block1 _ _ _).trans ?_)
  unfold sortCols
  rw [hlast]
  refine congrArg (fun f => Network.apply (sortNet 11 true) f (y 1)) ?_
  funext j
  show V c main_v0 ((win1_0.blk t).view.emb (ix3 (0 : Fin 1) j (y 2 : Fin 512))) = _
  refine congrArg (V c main_v0) ?_
  have h0 := h 0
  have h1 := h 1
  have h2' := h 2
  have hy0 : (y 0 : Fin 1).val = 0 := congrArg Fin.val (Subsingleton.elim (α := Fin 1) (y 0) 0)
  funext a
  refine Fin.ext ?_
  match a with
  | ⟨0, _⟩ => blk_simp; omega
  | ⟨1, _⟩ => blk_simp; omega
  | ⟨2, _⟩ => blk_simp; omega

end Cert.Sort

end
-- ==== Proof.Run.lean ====
/-
  The kernel's run: every execution of the two kernels one after the other ends with the result array holding the
  argument with its rows sorted and then its columns, and with the argument as launched.
-/
module

public import proofs.«01_k».proof.Proof.Arrays

@[expose] public section

noncomputable section

namespace Cert.Sort

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

/-- What the second kernel finds in its argument array: the first kernel's sorted rows. -/
theorem between (c : Dev nD) : V1 m ρ c main_v0 = sortRows (m ((c : Thread nD τ).loc main_arg0)) :=
  (W1_arr m ρ c 1).trans (array0 (V0 m ρ) c)

/-- What the result array holds after the second kernel: the argument's rows sorted, then its columns. -/
theorem result (c : Dev nD) :
    W2 m ρ c (Proc.devRef .tc main_v1) = sortCols (sortRows (m ((c : Thread nD τ).loc main_arg0))) :=
  (W2_arr m ρ c 1).trans ((array1 (V1 m ρ) c).trans (congrArg sortCols (between m ρ c)))

-- the launch theorem's implicit arguments are found by unifying its conclusion with this one, which takes unfolding
-- plain definitions in the types of what is to be found
set_option backward.isDefEq.respectTransparency.types false in
/-- Every weakly fair execution of the two kernels from any memory with zero counters ends, with the result array holding
    the argument's rows sorted and then its columns, and the argument as launched. -/
theorem kernel_run : θ_run defs (onTc (τ := τ) (main (F := Ideal))) ⟨m, fun _ => 0, ρ⟩ (fun r => ∀ c : Dev nD,
      r.2.mem ((c.tc : Thread nD τ).loc main_v1) = sortCols (sortRows (m ((c.tc : Thread nD τ).loc main_arg0)))
      ∧ r.2.mem ((c.tc : Thread nD τ).loc main_arg0) = m ((c.tc : Thread nD τ).loc main_arg0)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h _ c =>
      ⟨(h c _ (mem_uc main_v1 (by decide))).trans (result m ρ c),
        (h c _ (mem_uc main_arg0 (by decide))).trans (W2_main_arg0 m ρ c)⟩)

end Cert.Sort

end
-- ==== Proof.Order.lean ====
/-
  What the reference computes. A row of extended reals has one rearrangement from greatest to least; the sorting
  network and the reference's `top_k` of the whole row both give it, so they agree.
-/
module

public import Idealize.ShloMosaic.Lib.SortFacts
public import Idealize.ShloMosaic.Lib.SortNet.Sorts
public import Idealize.ShloMosaic.Lib.Pointwise
public import Mathlib.Order.Interval.Finset.Fin

@[expose] public section

noncomputable section

namespace Cert.Sort

open Idealize.ShloMosaic Idealize.ShloMosaic.SortNet

/-- Of two rearrangements of `v` from greatest to least the one is nowhere below the other: were it below at place `i`,
    the `i + 1` entries that the other has up to `i` would all stand before `i`. -/
theorem antitone_le {n : ℕ} (v : Fin n → EReal) (σ τ : Equiv.Perm (Fin n)) (hσ : Antitone (v ∘ σ)) (hτ : Antitone (v ∘ τ))
    (i : Fin n) : v (τ i) ≤ v (σ i) := by
  by_contra hlt
  rw [not_le] at hlt
  have hmaps : ∀ k ∈ Finset.Iic i, σ.symm (τ k) ∈ Finset.Iio i := by
    intro k hk
    rw [Finset.mem_Iio]
    by_contra hge
    rw [not_lt] at hge
    have h1 : v (τ i) ≤ v (τ k) := hτ (Finset.mem_Iic.mp hk)
    have h2 : v (σ (σ.symm (τ k))) ≤ v (σ i) := hσ hge
    rw [Equiv.apply_symm_apply] at h2
    exact absurd (hlt.trans_le h1) (not_lt.mpr h2)
  have hcard := Finset.card_le_card_of_injOn (fun k => σ.symm (τ k)) hmaps
    fun a _ b _ hab => τ.injective (σ.symm.injective hab)
  rw [Fin.card_Iic, Fin.card_Iio] at hcard
  omega

/-- A row has one rearrangement from greatest to least. -/
theorem antitone_unique {n : ℕ} (v : Fin n → EReal) (σ τ : Equiv.Perm (Fin n)) (hσ : Antitone (v ∘ σ))
    (hτ : Antitone (v ∘ τ)) : v ∘ σ = v ∘ τ :=
  funext fun i => le_antisymm (antitone_le v τ σ hτ hσ i) (antitone_le v σ τ hσ hτ i)

/-- A rearrangement of `v` from greatest to least is what the sorting network makes of `v`. -/
theorem eq_network {p : ℕ} (v : Fin (2 ^ p) → EReal) (σ : Equiv.Perm (Fin (2 ^ p))) (h : Antitone (v ∘ σ)) :
    v ∘ σ = Network.apply (sortNet p true) v := by
  obtain ⟨τ, hτ⟩ := Network.exists_perm (sortNet p true) v
  have ha : Antitone (v ∘ τ) := by
    have := sortNet_apply_antitone p v
    rwa [hτ] at this
  rw [hτ]
  exact antitone_unique v σ τ h ha

/-- The comparator of `top_k` on extended reals holds exactly of a greater before a lesser. -/
theorem gt_iff (x y : EReal) : (FloatOps.cmpfTotal (F := Ideal) (φ := .f32) .gt x y == 1#1) = decide (y < x) := by
  show (BitVec.ofBool (decide (x > y)) == 1#1) = _
  by_cases h : y < x <;> simp [h]

/-- The positions that `top_k` reads a row from, in order, put the row from greatest to least. -/
theorem sortedFrom_antitone {n : ℕ} (v : Fin n → EReal) :
    Antitone (v ∘ sortedFrom fun k k' => FloatOps.cmpfTotal (F := Ideal) (φ := .f32) .gt (v k) (v k') == 1#1) := by
  intro i j hij
  rcases hij.eq_or_lt with rfl | hlt
  · exact le_refl _
  have := sortedFrom_noInversion
    (fun k k' => FloatOps.cmpfTotal (F := Ideal) (φ := .f32) .gt (v k) (v k') == 1#1)
    (fun k k' => FloatOps.cmpfTotal (F := Ideal) (φ := .f32) .gt (v k) (v k') == 1#1)
    (fun a b hab => by
      rw [gt_iff, decide_eq_true_eq] at hab
      rw [gt_iff, decide_eq_false_iff_not]
      exact not_lt.mpr hab.le)
    (fun _ _ hab => hab)
    (fun a b d hab hbd => by
      rw [gt_iff, decide_eq_false_iff_not, not_lt] at hab hbd ⊢
      exact hab.trans hbd) i j hlt
  rw [gt_iff, decide_eq_false_iff_not, not_lt] at this
  exact this

/-- The values of `top_k` along the last axis, all of them kept: each row as the sorting network leaves it. -/
theorem topK_apply {a b p : ℕ} (x : FVec Ideal ⟨3, ![a, b, 2 ^ p]⟩ .f32)
    (h : (⟨3, ![a, b, 2 ^ p]⟩ : Shape).Slices (fun _ => 0) ⟨3, ![a, b, 2 ^ p]⟩) (i : Fin a) (j : Fin b) (k : Fin (2 ^ p)) :
    (Host.topK ⟨3, ![a, b, 2 ^ p]⟩ 2 (FloatOps.cmpfTotal .gt) x h).1 (ix3 i j k)
      = Network.apply (sortNet p true) (fun k' => x (ix3 i j k')) k := by
  have hal : ∀ k' : Fin (2 ^ p), Shape.Idx.along (s := ⟨3, ![a, b, 2 ^ p]⟩) (ix3 i j k) (2 : Fin 3) k' = ix3 i j k' := by
    intro k'
    funext d
    match d with
    | ⟨0, _⟩ => rfl
    | ⟨1, _⟩ => rfl
    | ⟨2, _⟩ => rfl
  set v : Fin (2 ^ p) → EReal := fun k' => x (ix3 i j k') with hv
  set q : Fin (2 ^ p) → Fin (2 ^ p) :=
    sortedFrom fun k k' => FloatOps.cmpfTotal (F := Ideal) (φ := .f32) .gt (v k) (v k') == 1#1 with hq
  rw [← congrFun (eq_network v (Equiv.ofBijective q ⟨sortedFrom_injective _, sortedFrom_surjective _⟩)
    (sortedFrom_antitone v)) k]
  show _ = v (q k)
  unfold Host.topK extractStridedSlice
  have hidx : ∀ (f : (⟨3, ![a, b, 2 ^ p]⟩ : Shape).Idx), f = ix3 i j k →
      (Host.sort2 ⟨3, ![a, b, 2 ^ p]⟩ 2 (fun l r => FloatOps.cmpfTotal (F := Ideal) (φ := .f32) .gt l.1 r.1) x
        (fun i => if hd : 2 < 3 then iotaInDim ⟨3, ![a, b, 2 ^ p]⟩ 32 ⟨2, hd⟩ i else 0#32)).1 f = v (q k) := by
    intro f hf
    subst hf
    unfold Host.sort2
    rw [dif_pos (show 2 < 3 by decide)]
    have hkey : (fun k1 k2 => FloatOps.cmpfTotal (F := Ideal) (φ := .f32) .gt
          (x (Shape.Idx.along (s := ⟨3, ![a, b, 2 ^ p]⟩) (ix3 i j k) (2 : Fin 3) k1))
          (x (Shape.Idx.along (s := ⟨3, ![a, b, 2 ^ p]⟩) (ix3 i j k) (2 : Fin 3) k2)) == 1#1)
        = fun k1 k2 => FloatOps.cmpfTotal (F := Ideal) (φ := .f32) .gt (v k1) (v k2) == 1#1 := by
      funext k1 k2
      rw [hal k1, hal k2]
    show x (Shape.Idx.along (s := ⟨3, ![a, b, 2 ^ p]⟩) (ix3 i j k) (2 : Fin 3)
      (sortedFrom (fun k1 k2 => FloatOps.cmpfTotal (F := Ideal) (φ := .f32) .gt
          (x (Shape.Idx.along (s := ⟨3, ![a, b, 2 ^ p]⟩) (ix3 i j k) (2 : Fin 3) k1))
          (x (Shape.Idx.along (s := ⟨3, ![a, b, 2 ^ p]⟩) (ix3 i j k) (2 : Fin 3) k2)) == 1#1) k)) = _
    rw [hkey]
    exact congrArg x (hal (q k))
  refine hidx _ ?_
  funext d
  refine Fin.ext ?_
  match d with
  | ⟨0, _⟩ => exact Nat.zero_add _
  | ⟨1, _⟩ => exact Nat.zero_add _
  | ⟨2, _⟩ => exact Nat.zero_add _

end Cert.Sort

end
-- ==== Proof.Reference.lean ====
/-
  The reference's term is the two sorts: `top_k` of whole rows sorts the rows, and `top_k` between two transpositions
  sorts the columns.
-/
module

public import proofs.«01_k».proof.Proof.Order
public import proofs.«01_k».proof.Proof.Arrays
public import proofs.«01_k».proof.Proof.Gen.ReferenceIdeal.Run

@[expose] public section

noncomputable section

namespace Cert.Sort

open Idealize.ShloMosaic Idealize.ShloMosaic.SortNet Cert.ReferenceIdeal Cert.ReferenceIdeal.Gen

/-- `top_k` of whole rows sorts the rows. -/
theorem topK_rows (x : FVec Ideal S4x2048x4096 .f32) :
    (Host.topK S4x2048x4096 2 (FloatOps.cmpfTotal .gt) x sliceFits_S4x2048x4096_S4x2048x4096).1 = sortRows x := by
  funext y
  rw [eq_ix3 (n0 := 4) (n1 := 2048) (n2 := 4096) y]
  exact topK_apply (a := 4) (b := 2048) (p := 12) x _ (y 0) (y 1) (y 2)

/-- `top_k` of whole rows between two transpositions sorts the columns. -/
theorem topK_cols (x : FVec Ideal S4x2048x4096 .f32) :
    transpose S4x2048x4096 [0, 2, 1]
      ((Host.topK S4x4096x2048 2 (FloatOps.cmpfTotal .gt)
        (transpose S4x4096x2048 [0, 2, 1] x transposes_S4x2048x4096_S4x4096x2048_0_2_1)
        sliceFits_S4x4096x2048_S4x4096x2048).1) transposes_S4x4096x2048_S4x2048x4096_0_2_1 = sortCols x := by
  have hin : ∀ (a : Fin 4) (j : Fin 4096) (i : Fin 2048),
      transpose S4x4096x2048 [0, 2, 1] x transposes_S4x2048x4096_S4x4096x2048_0_2_1 (ix3 a j i) = x (ix3 a i j) := by
    intro a j i
    pointwise
  have hout : ∀ (z : FVec Ideal S4x4096x2048 .f32) (a : Fin 4) (i : Fin 2048) (j : Fin 4096),
      transpose S4x2048x4096 [0, 2, 1] z transposes_S4x4096x2048_S4x2048x4096_0_2_1 (ix3 a i j) = z (ix3 a j i) := by
    intro z a i j
    pointwise
  funext y
  rw [eq_ix3 (n0 := 4) (n1 := 2048) (n2 := 4096) y]
  refine (hout _ (y 0) (y 1) (y 2)).trans ?_
  refine (topK_apply (a := 4) (b := 4096) (p := 11) _ _ (y 0) (y 2) (y 1)).trans ?_
  refine congrArg (fun f => Network.apply (sortNet 11 true) f (y 1)) ?_
  funext i
  exact hin (y 0) (y 2) i

end Cert.Sort

end
-- ==== Proof.lean ====
/-
  The proof of `Cert.Claim` (Defs.lean): the three programs run to an end and leave their argument and every counter as
  they should; the idealized kernel is the kernel's own text; and the idealized kernel and the reference end with equal
  results, both being the argument with its rows sorted from greatest to least and then its columns.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Reference
public import Idealize.ShloMosaic.Adequacy
public import Idealize.ShloMosaic.Init

@[expose] public section

noncomputable section

namespace Cert.Proof

open Idealize.ShloMosaic Idealize.ShloMosaic.TcCoe Idealize.SL.Sem Cert.Sort

/-- The reference runs to an end with its argument as launched and, having no counter, every counter at zero. -/
theorem reference_quiet : Cert.quiescent_ReferenceIdeal (hReferenceIdeal := Cert.ReferenceIdeal.Gen.facts) := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- The idealized kernel and the reference end with equal results: the rows of the argument sorted, then its columns. -/
theorem equal_results : Cert.algebraic_KernelIdeal_ReferenceIdeal (hKernelIdeal := Cert.KernelIdeal.Gen.facts)
    (hReferenceIdeal := Cert.ReferenceIdeal.Gen.facts) := fun m g m' g' _ hm =>
  ⟨fun c => sortCols (sortRows (m ((c.tc : Thread Cert.KernelIdeal.nD Cert.KernelIdeal.τ).loc Cert.KernelIdeal.main_arg0))),
    kernel_run m g,
    (θ_run Cert.ReferenceIdeal.defs _ _).mono
      (fun r h c => ⟨by
        rw [(h c).1, topK_rows, topK_cols, hm c], (h c).2⟩)
      (Cert.ReferenceIdeal.Value.run (F := Ideal) m' g')⟩

/-- The claim. -/
theorem claim : Cert.Claim :=
  ⟨Cert.Kernel.Gen.facts, Cert.KernelIdeal.Gen.facts, Cert.ReferenceIdeal.Gen.facts,
    fun m g _ => Cert.Kernel.Gen.frame m g, fun m g _ => Cert.KernelIdeal.Gen.frame m g, reference_quiet, trivial,
    equal_results⟩

end Cert.Proof

end
